-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x64x64 : Shape := ⟨4, ![4, 512, 64, 64]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S9x512x1x1 : Shape := ⟨4, ![9, 512, 1, 1]⟩
abbrev S9 : Shape := ⟨1, ![9]⟩
abbrev S4x512x4096 : Shape := ⟨3, ![4, 512, 4096]⟩
abbrev S3x3x512x512 : Shape := ⟨4, ![3, 3, 512, 512]⟩
abbrev S9x512x512 : Shape := ⟨3, ![9, 512, 512]⟩
abbrev S1x512x512 : Shape := ⟨3, ![1, 512, 512]⟩
abbrev S512x512 : Shape := ⟨2, ![512, 512]⟩
abbrev S512x1536 : Shape := ⟨2, ![512, 1536]⟩
abbrev S1x512x1536 : Shape := ⟨3, ![1, 512, 1536]⟩
abbrev S3x512x1536 : Shape := ⟨3, ![3, 512, 1536]⟩
abbrev S36x512 : Shape := ⟨2, ![36, 512]⟩
abbrev S9x512 : Shape := ⟨2, ![9, 512]⟩
abbrev S_ : Shape := ⟨0, ![]⟩
abbrev S19x512 : Shape := ⟨2, ![19, 512]⟩
abbrev S64x512 : Shape := ⟨2, ![64, 512]⟩
abbrev S19 : Shape := ⟨1, ![19]⟩
abbrev S64 : Shape := ⟨1, ![64]⟩
abbrev S512x1 : Shape := ⟨2, ![512, 1]⟩
abbrev S1x64 : Shape := ⟨2, ![1, 64]⟩
abbrev S4x4096x36 : Shape := ⟨3, ![4, 4096, 36]⟩
abbrev S4x4096x9 : Shape := ⟨3, ![4, 4096, 9]⟩
abbrev S1x512x4096 : Shape := ⟨3, ![1, 512, 4096]⟩
abbrev S1x4096x36 : Shape := ⟨3, ![1, 4096, 36]⟩
abbrev S1x4096x9 : Shape := ⟨3, ![1, 4096, 9]⟩
abbrev S1x4096 : Shape := ⟨2, ![1, 4096]⟩
abbrev S512x4096 : Shape := ⟨2, ![512, 4096]⟩
abbrev S1536x4096 : Shape := ⟨2, ![1536, 4096]⟩
abbrev S64x4096 : Shape := ⟨2, ![64, 4096]⟩
abbrev S4096x64 : Shape := ⟨2, ![4096, 64]⟩
abbrev S4096x36 : Shape := ⟨2, ![4096, 36]⟩
abbrev S4096x9 : Shape := ⟨2, ![4096, 9]⟩
abbrev S4x36864x4 : Shape := ⟨3, ![4, 36864, 4]⟩
abbrev S4x36864x1 : Shape := ⟨3, ![4, 36864, 1]⟩

abbrev nBuf : Space → Nat
  | .hbm => 51
  | .vmem => 10
  | .smem => 0
  | _ => 0

abbrev bufTy : (tb : Table) → Fin (tcTables nBuf tb) → BufTy
  | .hbm, ⟨0, _⟩ => ⟨S4x512x64x64, .f32⟩
  | .hbm, ⟨1, _⟩ => ⟨S512x512x3x3, .f32⟩
  | .hbm, ⟨2, _⟩ => ⟨S512, .f32⟩
  | .hbm, ⟨3, _⟩ => ⟨S36x512x1x1, .f32⟩
  | .hbm, ⟨4, _⟩ => ⟨S36, .f32⟩
  | .hbm, ⟨5, _⟩ => ⟨S9x512x1x1, .f32⟩
  | .hbm, ⟨6, _⟩ => ⟨S9, .f32⟩
  | .hbm, ⟨7, _⟩ => ⟨S4x512x4096, .f32⟩
  | .hbm, ⟨8, _⟩ => ⟨S3x3x512x512, .f32⟩
  | .hbm, ⟨9, _⟩ => ⟨S9x512x512, .f32⟩
  | .hbm, ⟨10, _⟩ => ⟨S1x512x512, .f32⟩
  | .hbm, ⟨11, _⟩ => ⟨S512x512, .f32⟩
  | .hbm, ⟨12, _⟩ => ⟨S1x512x512, .f32⟩
  | .hbm, ⟨13, _⟩ => ⟨S512x512, .f32⟩
  | .hbm, ⟨14, _⟩ => ⟨S1x512x512, .f32⟩
  | .hbm, ⟨15, _⟩ => ⟨S512x512, .f32⟩
  | .hbm, ⟨16, _⟩ => ⟨S512x1536, .f32⟩
  | .hbm, ⟨17, _⟩ => ⟨S1x512x512, .f32⟩
  | .hbm, ⟨18, _⟩ => ⟨S512x512, .f32⟩
  | .hbm, ⟨19, _⟩ => ⟨S1x512x512, .f32⟩
  | .hbm, ⟨20, _⟩ => ⟨S512x512, .f32⟩
  | .hbm, ⟨21, _⟩ => ⟨S1x512x512, .f32⟩
  | .hbm, ⟨22, _⟩ => ⟨S512x512, .f32⟩
  | .hbm, ⟨23, _⟩ => ⟨S512x1536, .f32⟩
  | .hbm, ⟨24, _⟩ => ⟨S1x512x512, .f32⟩
  | .hbm, ⟨25, _⟩ => ⟨S512x512, .f32⟩
  | .hbm, ⟨26, _⟩ => ⟨S1x512x512, .f32⟩
  | .hbm, ⟨27, _⟩ => ⟨S512x512, .f32⟩
  | .hbm, ⟨28, _⟩ => ⟨S1x512x512, .f32⟩
  | .hbm, ⟨29, _⟩ => ⟨S512x512, .f32⟩
  | .hbm, ⟨30, _⟩ => ⟨S512x1536, .f32⟩
  | .hbm, ⟨31, _⟩ => ⟨S1x512x1536, .f32⟩
  | .hbm, ⟨32, _⟩ => ⟨S1x512x1536, .f32⟩
  | .hbm, ⟨33, _⟩ => ⟨S1x512x1536, .f32⟩
  | .hbm, ⟨34, _⟩ => ⟨S3x512x1536, .f32⟩
  | .hbm, ⟨35, _⟩ => ⟨S3x512x1536, .bf16⟩
  | .hbm, ⟨36, _⟩ => ⟨S36x512, .f32⟩
  | .hbm, ⟨37, _⟩ => ⟨S9x512, .f32⟩
  | .hbm, ⟨38, _⟩ => ⟨S_, .f32⟩
  | .hbm, ⟨39, _⟩ => ⟨S19x512, .f32⟩
  | .hbm, ⟨40, _⟩ => ⟨S64x512, .f32⟩
  | .hbm, ⟨41, _⟩ => ⟨S64x512, .bf16⟩
  | .hbm, ⟨42, _⟩ => ⟨S_, .f32⟩
  | .hbm, ⟨43, _⟩ => ⟨S19, .f32⟩
  | .hbm, ⟨44, _⟩ => ⟨S64, .f32⟩
  | .hbm, ⟨45, _⟩ => ⟨S512x1, .f32⟩
  | .hbm, ⟨46, _⟩ => ⟨S1x64, .f32⟩
  | .hbm, ⟨47, _⟩ => ⟨S4x4096x36, .f32⟩
  | .hbm, ⟨48, _⟩ => ⟨S4x4096x9, .f32⟩
  | .hbm, ⟨49, _⟩ => ⟨S4x36864x4, .f32⟩
  | .hbm, ⟨50, _⟩ => ⟨S4x36864x1, .f32⟩
  | .local _ .vmem, ⟨0, _⟩ => ⟨S1x512x4096, .f32⟩
  | .local _ .vmem, ⟨1, _⟩ => ⟨S1x512x4096, .f32⟩
  | .local _ .vmem, ⟨2, _⟩ => ⟨S3x512x1536, .bf16⟩
  | .local _ .vmem, ⟨3, _⟩ => ⟨S512x1, .f32⟩
  | .local _ .vmem, ⟨4, _⟩ => ⟨S64x512, .bf16⟩
  | .local _ .vmem, ⟨5, _⟩ => ⟨S1x64, .f32⟩
  | .local _ .vmem, ⟨6, _⟩ => ⟨S1x4096x36, .f32⟩
  | .local _ .vmem, ⟨7, _⟩ => ⟨S1x4096x36, .f32⟩
  | .local _ .vmem, ⟨8, _⟩ => ⟨S1x4096x9, .f32⟩
  | .local _ .vmem, ⟨9, _⟩ => ⟨S1x4096x9, .f32⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x9 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x512x64x64 : Shape := ⟨4, ![4, 512, 64, 64]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S9x512x1x1 : Shape := ⟨4, ![9, 512, 1, 1]⟩
abbrev S9 : Shape := ⟨1, ![9]⟩
abbrev S_ : Shape := ⟨0, ![]⟩
abbrev S4x512x66x66 : Shape := ⟨4, ![4, 512, 66, 66]⟩
abbrev S512x512x1x1 : Shape := ⟨4, ![512, 512, 1, 1]⟩
abbrev S512x512 : Shape := ⟨2, ![512, 512]⟩
abbrev S4x64x64x512 : Shape := ⟨4, ![4, 64, 64, 512]⟩
abbrev S1x512x1x1 : Shape := ⟨4, ![1, 512, 1, 1]⟩
abbrev S36x512 : Shape := ⟨2, ![36, 512]⟩
abbrev S4x64x64x36 : Shape := ⟨4, ![4, 64, 64, 36]⟩
abbrev S4x36x64x64 : Shape := ⟨4, ![4, 36, 64, 64]⟩
abbrev S1x36x1x1 : Shape := ⟨4, ![1, 36, 1, 1]⟩
abbrev S9x512 : Shape := ⟨2, ![9, 512]⟩
abbrev S4x64x64x9 : Shape := ⟨4, ![4, 64, 64, 9]⟩
abbrev S4x9x64x64 : Shape := ⟨4, ![4, 9, 64, 64]⟩
abbrev S1x9x1x1 : Shape := ⟨4, ![1, 9, 1, 1]⟩
abbrev S4x36864x4 : Shape := ⟨3, ![4, 36864, 4]⟩
abbrev S4x36864x1 : Shape := ⟨3, ![4, 36864, 1]⟩

abbrev nBuf : Space → Nat
  | .hbm => 88
  | .vmem => 0
  | .smem => 0
  | _ => 0

abbrev bufTy : (tb : Table) → Fin (tcTables nBuf tb) → BufTy
  | .hbm, ⟨0, _⟩ => ⟨S4x512x64x64, .f32⟩
  | .hbm, ⟨1, _⟩ => ⟨S512x512x3x3, .f32⟩
  | .hbm, ⟨2, _⟩ => ⟨S512, .f32⟩
  | .hbm, ⟨3, _⟩ => ⟨S36x512x1x1, .f32⟩
  | .hbm, ⟨4, _⟩ => ⟨S36, .f32⟩
  | .hbm, ⟨5, _⟩ => ⟨S9x512x1x1, .f32⟩
  | .hbm, ⟨6, _⟩ => ⟨S9, .f32⟩
  | .hbm, ⟨7, _⟩ => ⟨S_, .i32⟩
  | .hbm, ⟨8, _⟩ => ⟨S_, .f32⟩
  | .hbm, ⟨9, _⟩ => ⟨S4x512x66x66, .f32⟩
  | .hbm, ⟨10, _⟩ => ⟨S512x512x1x1, .f32⟩
  | .hbm, ⟨11, _⟩ => ⟨S512x512, .f32⟩
  | .hbm, ⟨12, _⟩ => ⟨S4x512x64x64, .f32⟩
  | .hbm, ⟨13, _⟩ => ⟨S4x64x64x512, .f32⟩
  | .hbm, ⟨14, _⟩ => ⟨S4x512x64x64, .f32⟩
  | .hbm, ⟨15, _⟩ => ⟨S_, .f32⟩
  | .hbm, ⟨16, _⟩ => ⟨S4x512x64x64, .f32⟩
  | .hbm, ⟨17, _⟩ => ⟨S4x512x64x64, .f32⟩
  | .hbm, ⟨18, _⟩ => ⟨S512x512x1x1, .f32⟩
  | .hbm, ⟨19, _⟩ => ⟨S512x512, .f32⟩
  | .hbm, ⟨20, _⟩ => ⟨S4x512x64x64, .f32⟩
  | .hbm, ⟨21, _⟩ => ⟨S4x64x64x512, .f32⟩
  | .hbm, ⟨22, _⟩ => ⟨S4x512x64x64, .f32⟩
  | .hbm, ⟨23, _⟩ => ⟨S4x512x64x64, .f32⟩
  | .hbm, ⟨24, _⟩ => ⟨S512x512x1x1, .f32⟩
  | .hbm, ⟨25, _⟩ => ⟨S512x512, .f32⟩
  | .hbm, ⟨26, _⟩ => ⟨S4x512x64x64, .f32⟩
  | .hbm, ⟨27, _⟩ => ⟨S4x64x64x512, .f32⟩
  | .hbm, ⟨28, _⟩ => ⟨S4x512x64x64, .f32⟩
  | .hbm, ⟨29, _⟩ => ⟨S4x512x64x64, .f32⟩
  | .hbm, ⟨30, _⟩ => ⟨S512x512x1x1, .f32⟩
  | .hbm, ⟨31, _⟩ => ⟨S512x512, .f32⟩
  | .hbm, ⟨32, _⟩ => ⟨S4x512x64x64, .f32⟩
  | .hbm, ⟨33, _⟩ => ⟨S4x64x64x512, .f32⟩
  | .hbm, ⟨34, _⟩ => ⟨S4x512x64x64, .f32⟩
  | .hbm, ⟨35, _⟩ => ⟨S4x512x64x64, .f32⟩
  | .hbm, ⟨36, _⟩ => ⟨S512x512x1x1, .f32⟩
  | .hbm, ⟨37, _⟩ => ⟨S512x512, .f32⟩
  | .hbm, ⟨38, _⟩ => ⟨S4x512x64x64, .f32⟩
  | .hbm, ⟨39, _⟩ => ⟨S4x64x64x512, .f32⟩
  | .hbm, ⟨40, _⟩ => ⟨S4x512x64x64, .f32⟩
  | .hbm, ⟨41, _⟩ => ⟨S4x512x64x64, .f32⟩
  | .hbm, ⟨42, _⟩ => ⟨S512x512x1x1, .f32⟩
  | .hbm, ⟨43, _⟩ => ⟨S512x512, .f32⟩
  | .hbm, ⟨44, _⟩ => ⟨S4x512x64x64, .f32⟩
  | .hbm, ⟨45, _⟩ => ⟨S4x64x64x512, .f32⟩
  | .hbm, ⟨46, _⟩ => ⟨S4x512x64x64, .f32⟩
  | .hbm, ⟨47, _⟩ => ⟨S4x512x64x64, .f32⟩
  | .hbm, ⟨48, _⟩ => ⟨S512x512x1x1, .f32⟩
  | .hbm, ⟨49, _⟩ => ⟨S512x512, .f32⟩
  | .hbm, ⟨50, _⟩ => ⟨S4x512x64x64, .f32⟩
  | .hbm, ⟨51, _⟩ => ⟨S4x64x64x512, .f32⟩
  | .hbm, ⟨52, _⟩ => ⟨S4x512x64x64, .f32⟩
  | .hbm, ⟨53, _⟩ => ⟨S4x512x64x64, .f32⟩
  | .hbm, ⟨54, _⟩ => ⟨S512x512x1x1, .f32⟩
  | .hbm, ⟨55, _⟩ => ⟨S512x512, .f32⟩
  | .hbm, ⟨56, _⟩ => ⟨S4x512x64x64, .f32⟩
  | .hbm, ⟨57, _⟩ => ⟨S4x64x64x512, .f32⟩
  | .hbm, ⟨58, _⟩ => ⟨S4x512x64x64, .f32⟩
  | .hbm, ⟨59, _⟩ => ⟨S4x512x64x64, .f32⟩
  | .hbm, ⟨60, _⟩ => ⟨S512x512x1x1, .f32⟩
  | .hbm, ⟨61, _⟩ => ⟨S512x512, .f32⟩
  | .hbm, ⟨62, _⟩ => ⟨S4x512x64x64, .f32⟩
  | .hbm, ⟨63, _⟩ => ⟨S4x64x64x512, .f32⟩
  | .hbm, ⟨64, _⟩ => ⟨S4x512x64x64, .f32⟩
  | .hbm, ⟨65, _⟩ => ⟨S4x512x64x64, .f32⟩
  | .hbm, ⟨66, _⟩ => ⟨S1x512x1x1, .f32⟩
  | .hbm, ⟨67, _⟩ => ⟨S4x512x64x64, .f32⟩
  | .hbm, ⟨68, _⟩ => ⟨S4x512x64x64, .f32⟩
  | .hbm, ⟨69, _⟩ => ⟨S_, .f32⟩
  | .hbm, ⟨70, _⟩ => ⟨S4x512x64x64, .f32⟩
  | .hbm, ⟨71, _⟩ => ⟨S4x512x64x64, .f32⟩
  | .hbm, ⟨72, _⟩ => ⟨S36x512, .f32⟩
  | .hbm, ⟨73, _⟩ => ⟨S4x64x64x36, .f32⟩
  | .hbm, ⟨74, _⟩ => ⟨S4x36x64x64, .f32⟩
  | .hbm, ⟨75, _⟩ => ⟨S1x36x1x1, .f32⟩
  | .hbm, ⟨76, _⟩ => ⟨S4x36x64x64, .f32⟩
  | .hbm, ⟨77, _⟩ => ⟨S4x36x64x64, .f32⟩
  | .hbm, ⟨78, _⟩ => ⟨S9x512, .f32⟩
  | .hbm, ⟨79, _⟩ => ⟨S4x64x64x9, .f32⟩
  | .hbm, ⟨80, _⟩ => ⟨S4x9x64x64, .f32⟩
  | .hbm, ⟨81, _⟩ => ⟨S1x9x1x1, .f32⟩
  | .hbm, ⟨82, _⟩ => ⟨S4x9x64x64, .f32⟩
  | .hbm, ⟨83, _⟩ => ⟨S4x9x64x64, .f32⟩
  | .hbm, ⟨84, _⟩ => ⟨S4x64x64x36, .f32⟩
  | .hbm, ⟨85, _⟩ => ⟨S4x36864x4, .f32⟩
  | .hbm, ⟨86, _⟩ => ⟨S4x64x64x9, .f32⟩
  | .hbm, ⟨87, _⟩ => ⟨S4x36864x1, .f32⟩
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩

abbrev nD : Nat := 1
abbrev τ : Topo := Topo.v7x

variable {F : FTy → Type} [FloatOps F]
-- ==== Proof.Spec.lean ====
/- The head's mathematics on plain indices: what both programs are proved to compute. -/
module

public import Idealize.ShloMosaic.Lib.Pointwise

@[expose] public section

noncomputable section

namespace Cert.Rpn

open Idealize.ShloMosaic

/-- The image: batch, channel, row, column. -/
abbrev Img : Type := FVec Ideal ⟨4, ![4, 512, 64, 64]⟩ .f32
/-- The 3x3 filters: output channel, input channel, tap row, tap column. -/
abbrev Fil : Type := FVec Ideal ⟨4, ![512, 512, 3, 3]⟩ .f32

/-- The image framed by one line of zeros on every side, read at row `p` and column `q` of the 66x66 frame. -/
def padAt (x : Img) (b : Fin 4) (c : Fin 512) (p q : ℕ) : EReal :=
  if h : (1 ≤ p ∧ p ≤ 64) ∧ (1 ≤ q ∧ q ≤ 64) then
    x (ix4 b c ⟨p - 1, by omega⟩ ⟨q - 1, by omega⟩)
  else 0

/-- The convolution's tap `(ky, kx)` at output channel `o`, row `y`, column `z`: the sum over the input channels. -/
def tap (x : Img) (w : Fil) (b : Fin 4) (o : Fin 512) (y z : ℕ) (ky kx : Fin 3) : EReal :=
  ∑ c : Fin 512, padAt x b c (y + ky) (z + kx) * w (ix4 o c ky kx)

/-- The 3x3 convolution with padding 'SAME', without its bias. -/
def conv (x : Img) (w : Fil) (b : Fin 4) (o : Fin 512) (y z : ℕ) : EReal :=
  ∑ ky : Fin 3, ∑ kx : Fin 3, tap x w b o y z ky kx

/-- The hidden layer: the convolution, its bias, the relu. -/
def hid (x : Img) (w : Fil) (β : Fin 512 → EReal) (b : Fin 4) (o : Fin 512) (y z : ℕ) : EReal :=
  max (conv x w b o y z + β o) 0

/-- One output of a 1x1 convolution over the hidden layer: weights `r` and bias `s` of that output. -/
def head (x : Img) (w : Fil) (β : Fin 512 → EReal) (r : Fin 512 → EReal) (s : EReal) (b : Fin 4) (y z : ℕ) : EReal :=
  (∑ o : Fin 512, hid x w β b o y z * r o) + s

/-- The head depends on its biases and weights by their values only. -/
theorem head_congr (x : Img) (w : Fil) {β β' r r' : Fin 512 → EReal} {s s' : EReal} (b : Fin 4) (y z : ℕ)
    (hβ : ∀ o, β o = β' o) (hr : ∀ o, r o = r' o) (hs : s = s') : head x w β r s b y z = head x w β' r' s' b y z := by
  obtain rfl := funext hβ; obtain rfl := funext hr; obtain rfl := hs; rfl

end Cert.Rpn

end
-- ==== Proof.Body.lean ====
/- What one grid point computes, at a lane and an output column, from the blocks it reads. -/
module

public import proofs.«01_k».proof.Proof.Gen.KernelIdeal.Frame
public import Idealize.ShloMosaic.Lib.Pointwise
public import Idealize.ShloMosaic.Lib.WordCmp

@[expose] public section

set_option maxRecDepth 65536

noncomputable section

namespace Cert.KernelIdeal.Body

open Idealize.ShloMosaic Idealize.ShloMosaic.TcCoe Idealize.SL.Sem
open Cert.KernelIdeal Cert.KernelIdeal.Gen

/-- Two indices of a rank-three array agree when their coordinates do. -/
theorem ix3_congr {n₀ n₁ n₂ : ℕ} {a a' : Fin n₀} {b b' : Fin n₁} {d d' : Fin n₂}
    (h₀ : a.val = a'.val) (h₁ : b.val = b'.val) (h₂ : d.val = d'.val) : ix3 a b d = ix3 a' b' d' := by
  obtain rfl := Fin.ext h₀; obtain rfl := Fin.ext h₁; obtain rfl := Fin.ext h₂; rfl

/-- The lanes of one channel between a row of 64 zeros before and a row of 64 zeros after, read at position `p`. -/
def lane (x : FVec Ideal S1x512x4096 .f32) (k : Fin 512) (p : ℕ) : EReal :=
  if h : 64 ≤ p ∧ p < 4160 then x (ix3 0 k ⟨p - 64, by omega⟩) else 0

/-- Inside the two rows of zeros. -/
theorem lane_in (x : FVec Ideal S1x512x4096 .f32) (k : Fin 512) (p : ℕ) (h : 64 ≤ p ∧ p < 4160) :
    lane x k p = x (ix3 0 k ⟨p - 64, by omega⟩) := dif_pos h

/-- In one of the two rows of zeros. -/
theorem lane_out (x : FVec Ideal S1x512x4096 .f32) (k : Fin 512) (p : ℕ) (h : ¬(64 ≤ p ∧ p < 4160)) : lane x k p = 0 := dif_neg h

/-- One column of taps before its shift along the lanes: three tap rows, each a sum over the input channels. -/
def col (x : FVec Ideal S1x512x4096 .f32) (w : FVec Ideal S1x512x1536 .bf16) (o : Fin 512) (p : ℕ) : EReal :=
  ∑ k : Fin 1536, w (ix3 0 o k) * lane x ⟨k.val % 512, by omega⟩ (p + 64 * (k.val / 512))

/-- The stacked operand: row `512 ky + k` is channel `k` read 64 lanes further for each tap row. -/
theorem cat_at (x : FVec Ideal S1x512x4096 .f32) (k : Fin 1536) (n : Fin 4096) :
    k0_pay4 (F := Ideal) x (ix2 k n) = lane x ⟨k.val % 512, by omega⟩ (n.val + 64 * (k.val / 512)) := by
  pointwise [k0_pay4]
  simp (disch := word_cmp_side) only [hlo_ix]
  have hk := k.isLt
  have hn := n.isLt
  split_ifs <;> first
    | exact (lane_out x _ _ (by omega)).symm
    | (refine Eq.trans ?_ (lane_in x _ _ (by omega)).symm
       refine congrArg _ (ix3_congr rfl ?_ ?_) <;> dsimp only <;> omega)

/-- The lane number modulo 64, as the body computes it in words. -/
theorem column_at (n : Fin 4096) :
    k0_pay3 (ix2 0 n) = BitVec.ofNat 32 (n.val % 64) := by
  pointwise [k0_pay3]
  revert n
  decide +kernel

/-- The body's value: the middle column of taps, the left one shifted a lane forward and the right one a lane back, each
    dropped where the shift leaves its row; then the bias, the relu, and the two heads. -/
theorem body_at (x : FVec Ideal S1x512x4096 .f32) (w₀ w₁ w₂ : FVec Ideal S1x512x1536 .bf16) (β : FVec Ideal S512x1 .f32)
    (W : FVec Ideal S64x512 .bf16) (γ : FVec Ideal S1x64 .f32) (n : Fin 4096) (a : Fin 64) :
    k0_pay6 (F := Ideal) k0_pay3 (k0_pay4 (F := Ideal) x) (k0_pay5 (F := Ideal) x w₁) w₀ w₂ β W γ (ix2 n a)
      = (∑ o : Fin 512, W (ix2 a o) * max (col x w₁ o n + (if n.val % 64 = 0 then 0 else col x w₀ o (n.val - 1))
          + (if n.val % 64 = 63 then 0 else col x w₂ o (n.val + 1)) + β (ix2 o 0)) 0) + γ (ix2 0 a) := by
  have hn := n.isLt
  pointwise [k0_pay6, k0_pay5]
  simp only [column_at, cat_at]
  simp (disch := word_cmp_side) only [hlo_ix]
  refine congrArg (· + _) (Finset.sum_congr rfl fun o _ => ?_)
  have e₀ : (if n.val % 64 = 0 then (0 : EReal) else ∑ k : Fin 1536, w₀ (ix3 0 o k) * lane x ⟨k.val % 512, by omega⟩ ((n.val + 4096 - 1) % 4096 + 64 * (k.val / 512)))
      = if n.val % 64 = 0 then 0 else col x w₀ o (n.val - 1) := by
    split_ifs with h
    · rfl
    · rw [show (n.val + 4096 - 1) % 4096 = n.val - 1 by omega]; rfl
  have e₂ : (if n.val % 64 = 63 then (0 : EReal) else ∑ k : Fin 1536, w₂ (ix3 0 o k) * lane x ⟨k.val % 512, by omega⟩ ((n.val + 4096 - 4095) % 4096 + 64 * (k.val / 512)))
      = if n.val % 64 = 63 then 0 else col x w₂ o (n.val + 1) := by
    split_ifs with h
    · rfl
    · rw [show (n.val + 4096 - 4095) % 4096 = n.val + 1 by omega]; rfl
  exact congrArg (W (ix2 a o) * ·) (congrArg (max · 0) (congrArg (· + _) (congr (congrArg (· + ·) (congrArg (_ + ·) e₀)) e₂)))

/-- The box output's stored block is the first 36 columns of the body's value. -/
theorem box_at (v16 : IVec S1x4096 32) (v34 : FVec Ideal S1536x4096 .bf16) (v37 : FVec Ideal S512x4096 .f32) (v38 v49 : FVec Ideal S1x512x1536 .bf16) (v60 : FVec Ideal S512x1 .f32)
    (v67 : FVec Ideal S64x512 .bf16) (v71 : FVec Ideal S1x64 .f32) (n : Fin 4096) (a : Fin 36) :
    k0_pay1 (F := Ideal) (k0_pay7 v16 v34 v37 v38 v49 v60 v67 v71) (ix3 0 n a)
      = k0_pay6 v16 v34 v37 v38 v49 v60 v67 v71 (ix2 n ⟨a.val, by omega⟩) := by
  pointwise [k0_pay1, k0_pay7]

/-- The class output's stored block is the next nine columns of the body's value. -/
theorem cls_at (v : FVec Ideal S4096x64 .f32) (n : Fin 4096) (a : Fin 9) :
    k0_pay2 (F := Ideal) v (ix3 0 n a) = v (ix2 n ⟨36 + a.val, by omega⟩) := by
  pointwise [k0_pay2]

end Cert.KernelIdeal.Body

end
-- ==== Proof.Conv.lean ====
/- The body's value on the image's blocks is the head of `Spec`. -/
module

public import proofs.«01_k».proof.Proof.Spec
public import proofs.«01_k».proof.Proof.Body

@[expose] public section

set_option maxRecDepth 16384

noncomputable section

namespace Cert.KernelIdeal.Body

open Idealize.ShloMosaic Idealize.ShloMosaic.TcCoe
open Cert.KernelIdeal Cert.KernelIdeal.Gen

variable (img : Cert.Rpn.Img) (fil : Cert.Rpn.Fil) (b : Fin 4)

/-- The block of the image that a grid point reads: image `b` with its rows and columns on one axis. -/
def IsImage (x : FVec Ideal S1x512x4096 .f32) : Prop :=
  ∀ (k : Fin 512) (n : Fin 4096), x (ix3 0 k n) = img (ix4 b k ⟨n.val / 64, by omega⟩ ⟨n.val % 64, by omega⟩)

/-- The column of taps `kx`, its three tap rows one after another along the contracted axis. -/
def IsColumn (kx : Fin 3) (w : FVec Ideal S1x512x1536 .bf16) : Prop :=
  ∀ (o : Fin 512) (k : Fin 1536), w (ix3 0 o k) = fil (ix4 o ⟨k.val % 512, by omega⟩ ⟨k.val / 512, by omega⟩ kx)

/-- A lane between its two rows of zeros is the framed image, at a column inside the image. -/
theorem lane_eq {x : FVec Ideal S1x512x4096 .f32} (hx : IsImage img b x) (k : Fin 512) (y q ky : ℕ) (hy : y < 64) (hk : ky < 3) (h₁ : 1 ≤ q) (h₂ : q ≤ 64) :
    lane x k (64 * y + (q - 1) + 64 * ky) = Cert.Rpn.padAt img b k (y + ky) q := by
  unfold lane Cert.Rpn.padAt
  by_cases h : 64 ≤ 64 * y + (q - 1) + 64 * ky ∧ 64 * y + (q - 1) + 64 * ky < 4160
  · rw [dif_pos h, dif_pos (by omega), hx]
    exact congrArg _ (by congr 1 <;> apply Fin.ext <;> simp <;> omega)
  · rw [dif_neg h, dif_neg (by omega)]

/-- A column of taps at a lane: the three taps of that column, where the tap's image column lies inside the image. -/
theorem col_eq {x : FVec Ideal S1x512x4096 .f32} (hx : IsImage img b x) (kx : Fin 3) {w : FVec Ideal S1x512x1536 .bf16} (hw : IsColumn fil kx w)
    (o : Fin 512) (y z p : ℕ) (hy : y < 64) (h₁ : 1 ≤ z + kx.val) (h₂ : z + kx.val ≤ 64) (hp : p = 64 * y + (z + kx.val - 1)) :
    col x w o p = ∑ ky : Fin 3, Cert.Rpn.tap img fil b o y z ky kx := by
  subst hp
  unfold col Cert.Rpn.tap
  rw [Fin.sum_univ_tiles 3 512 rfl]
  refine Finset.sum_congr rfl fun ky _ => Finset.sum_congr rfl fun k _ => ?_
  have hk := k.isLt
  have ek : (ky.val * 512 + k.val) / 512 = ky.val := by omega
  have em : (ky.val * 512 + k.val) % 512 = k.val := by omega
  rw [hw, mul_comm]
  refine congrArg₂ (· * ·) ?_ (congrArg _ ?_)
  · dsimp only
    simp only [ek, em]
    exact lane_eq img b hx k y (z + kx.val) ky.val hy ky.isLt h₁ h₂
  · dsimp only
    simp only [ek, em]

/-- The taps of a column whose image column lies in the frame are zero. -/
theorem tap_zero (o : Fin 512) (y z : ℕ) (kx : Fin 3) (h : z + kx.val = 0 ∨ 65 ≤ z + kx.val) :
    ∑ ky : Fin 3, Cert.Rpn.tap img fil b o y z ky kx = 0 := by
  refine Finset.sum_eq_zero fun ky _ => Finset.sum_eq_zero fun k _ => ?_
  unfold Cert.Rpn.padAt
  rw [dif_neg (by omega), zero_mul]

/-- The three columns of taps, shifted and masked, are the convolution. -/
theorem conv_eq {x : FVec Ideal S1x512x4096 .f32} (hx : IsImage img b x) {w₀ w₁ w₂ : FVec Ideal S1x512x1536 .bf16}
    (h₀ : IsColumn fil 0 w₀) (h₁ : IsColumn fil 1 w₁) (h₂ : IsColumn fil 2 w₂) (o : Fin 512) (n : Fin 4096) :
    col x w₁ o n + (if n.val % 64 = 0 then 0 else col x w₀ o (n.val - 1)) + (if n.val % 64 = 63 then 0 else col x w₂ o (n.val + 1))
      = Cert.Rpn.conv img fil b o (n.val / 64) (n.val % 64) := by
  have hn := n.isLt
  have e₀ : (if n.val % 64 = 0 then 0 else col x w₀ o (n.val - 1)) = ∑ ky : Fin 3, Cert.Rpn.tap img fil b o (n.val / 64) (n.val % 64) ky 0 := by
    split_ifs with h
    · exact (tap_zero img fil b o _ _ 0 (Or.inl (by simpa using h))).symm
    · exact col_eq img fil b hx 0 h₀ o _ _ _ (by omega) (by simp; omega) (by simp; omega) (by simp; omega)
  have e₁ : col x w₁ o n.val = ∑ ky : Fin 3, Cert.Rpn.tap img fil b o (n.val / 64) (n.val % 64) ky 1 :=
    col_eq img fil b hx 1 h₁ o _ _ _ (by omega) (by simp) (by simp; omega) (by simp; omega)
  have e₂ : (if n.val % 64 = 63 then 0 else col x w₂ o (n.val + 1)) = ∑ ky : Fin 3, Cert.Rpn.tap img fil b o (n.val / 64) (n.val % 64) ky 2 := by
    split_ifs with h
    · exact (tap_zero img fil b o _ _ 2 (Or.inr (by simp; omega))).symm
    · exact col_eq img fil b hx 2 h₂ o _ _ _ (by omega) (by simp) (by simp; omega) (by simp; omega)
  rw [e₀, e₁, e₂]
  unfold Cert.Rpn.conv
  simp only [Fin.sum_univ_three]
  ac_rfl

/-- The body's value at a lane and an output column is the head. -/
theorem head_eq {x : FVec Ideal S1x512x4096 .f32} (hx : IsImage img b x) {w₀ w₁ w₂ : FVec Ideal S1x512x1536 .bf16}
    (h₀ : IsColumn fil 0 w₀) (h₁ : IsColumn fil 1 w₁) (h₂ : IsColumn fil 2 w₂) (β : FVec Ideal S512x1 .f32)
    (W : FVec Ideal S64x512 .bf16) (γ : FVec Ideal S1x64 .f32) (n : Fin 4096) (a : Fin 64) :
    k0_pay6 (F := Ideal) k0_pay3 (k0_pay4 (F := Ideal) x) (k0_pay5 (F := Ideal) x w₁) w₀ w₂ β W γ (ix2 n a)
      = Cert.Rpn.head img fil (fun o => β (ix2 o 0)) (fun o => W (ix2 a o)) (γ (ix2 0 a)) b (n.val / 64) (n.val % 64) := by
  rw [body_at]
  refine congrArg (· + _) (Finset.sum_congr rfl fun o _ => ?_)
  rw [conv_eq img fil b hx h₀ h₁ h₂, mul_comm]
  rfl

end Cert.KernelIdeal.Body

end
-- ==== Proof.Host.lean ====
/- What the host operations before the region leave in the arrays the windows read. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 65536

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The filters with the tap axes in front, the nine taps on one axis. -/
def taps (w : FVec Ideal S512x512x3x3 .f32) : FVec Ideal S9x512x512 .f32 :=
  shapeCast S9x512x512 (transpose S3x3x512x512 [2, 3, 0, 1] w transposes_S512x512x3x3_S3x3x512x512_2_3_0_1) shapeCasts_S3x3x512x512_S9x512x512

/-- One column of taps: the three planes of that column, top to bottom, side by side along the contracted axis. -/
def column (P Q R : FVec Ideal S1x512x512 .f32) : FVec Ideal S1x512x1536 .f32 :=
  broadcastInDim S1x512x1536 ![1, 2] bcast_S512x1536_S1x512x1536_1_2
    (concatenate S512x1536 1 [⟨S512x512, shapeCast S512x512 P shapeCasts_S1x512x512_S512x512⟩,
      ⟨S512x512, shapeCast S512x512 Q shapeCasts_S1x512x512_S512x512⟩,
      ⟨S512x512, shapeCast S512x512 R shapeCasts_S1x512x512_S512x512⟩] concatenates_S512x512_S512x512_S512x512_S512x1536_d1 : FVec Ideal S512x1536 .f32)

/-- The convolution's weights as the region reads them: the three columns of taps stacked. -/
def columns (w : FVec Ideal S512x512x3x3 .f32) : FVec Ideal S3x512x1536 .f32 :=
  concatenate S3x512x1536 0
    [⟨S1x512x1536, column (extractStridedSlice S1x512x512 ![0, 0, 0] (taps w) slices_S9x512x512_S1x512x512_0_0_0)
        (extractStridedSlice S1x512x512 ![3, 0, 0] (taps w) slices_S9x512x512_S1x512x512_3_0_0)
        (extractStridedSlice S1x512x512 ![6, 0, 0] (taps w) slices_S9x512x512_S1x512x512_6_0_0)⟩,
      ⟨S1x512x1536, column (extractStridedSlice S1x512x512 ![1, 0, 0] (taps w) slices_S9x512x512_S1x512x512_1_0_0)
        (extractStridedSlice S1x512x512 ![4, 0, 0] (taps w) slices_S9x512x512_S1x512x512_4_0_0)
        (extractStridedSlice S1x512x512 ![7, 0, 0] (taps w) slices_S9x512x512_S1x512x512_7_0_0)⟩,
      ⟨S1x512x1536, column (extractStridedSlice S1x512x512 ![2, 0, 0] (taps w) slices_S9x512x512_S1x512x512_2_0_0)
        (extractStridedSlice S1x512x512 ![5, 0, 0] (taps w) slices_S9x512x512_S1x512x512_5_0_0)
        (extractStridedSlice S1x512x512 ![8, 0, 0] (taps w) slices_S9x512x512_S1x512x512_8_0_0)⟩]
    concatenates_S1x512x1536_S1x512x1536_S1x512x1536_S3x512x1536_d0

/-- The two heads' weights stacked, and rows of zeros under them. -/
def heads (r : FVec Ideal S36x512x1x1 .f32) (s : FVec Ideal S9x512x1x1 .f32) : FVec Ideal S64x512 .f32 :=
  concatenate S64x512 0 [⟨S36x512, shapeCast S36x512 r shapeCasts_S36x512x1x1_S36x512⟩,
    ⟨S9x512, shapeCast S9x512 s shapeCasts_S9x512x1x1_S9x512⟩,
    ⟨S19x512, broadcastInDim S19x512 ![] bcast_S_S19x512 (constant (F := Ideal) S_ .f32 0x00000000#32)⟩] concatenates_S36x512_S9x512_S19x512_S64x512_d0

/-- The two heads' biases side by side, and zeros after them. -/
def biases (r : FVec Ideal S36 .f32) (s : FVec Ideal S9 .f32) : FVec Ideal S64 .f32 :=
  concatenate S64 0 [⟨S36, r⟩, ⟨S9, s⟩, ⟨S19, broadcastInDim S19 ![] bcast_S_S19 (constant (F := Ideal) S_ .f32 0x00000000#32)⟩] concatenates_S36_S9_S19_S64_d0

/-- The image array: the argument's rows and columns on one axis. -/
theorem x_eq : V m c main_v0 = shapeCast S4x512x4096 (m ((c : Thread nD τ).loc main_arg0) : FVec Ideal S4x512x64x64 .f32) shapeCasts_S4x512x64x64_S4x512x4096 := by
  unfold V V0
  simp only [hostOps0, List.flatten_cons, List.flatten_nil, List.append_nil, List.cons_append]
  after_results_simp
  rfl

/-- The convolution's weight array. -/
theorem wt_eq : V m c main_v28 = (truncf .bf16 (columns (m ((c : Thread nD τ).loc main_arg1))) bitsLt_bf16_f32 : FVec Ideal S3x512x1536 .bf16) := by
  unfold V V0
  simp only [hostOps0, List.flatten_cons, List.flatten_nil, List.append_nil, List.cons_append]
  after_results_simp
  rfl

/-- The heads' weight array. -/
theorem wh_eq : V m c main_v33 = (truncf .bf16 (heads (m ((c : Thread nD τ).loc main_arg3)) (m ((c : Thread nD τ).loc main_arg5))) bitsLt_bf16_f32 : FVec Ideal S64x512 .bf16) := by
  unfold V V0
  simp only [hostOps0, List.flatten_cons, List.flatten_nil, List.append_nil, List.cons_append]
  after_results_simp
  rfl

/-- The convolution's bias array. -/
theorem b3_eq : V m c main_v36 = shapeCast S512x1 (m ((c : Thread nD τ).loc main_arg2) : FVec Ideal S512 .f32) shapeCasts_S512_S512x1 := by
  unfold V V0
  simp only [hostOps0, List.flatten_cons, List.flatten_nil, List.append_nil, List.cons_append]
  after_results_simp
  rfl

/-- The heads' bias array. -/
theorem bh_eq : V m c main_v37 = shapeCast S1x64 (biases (m ((c : Thread nD τ).loc main_arg4)) (m ((c : Thread nD τ).loc main_arg6))) shapeCasts_S64_S1x64 := by
  unfold V V0
  simp only [hostOps0, List.flatten_cons, List.flatten_nil, List.append_nil, List.cons_append]
  after_results_simp
  rfl

/-- Two indices of a rank-four array agree when their coordinates do. -/
theorem ix4_congr {n₀ n₁ n₂ n₃ : ℕ} {a a' : Fin n₀} {b b' : Fin n₁} {d d' : Fin n₂} {e e' : Fin n₃}
    (h₀ : a.val = a'.val) (h₁ : b.val = b'.val) (h₂ : d.val = d'.val) (h₃ : e.val = e'.val) :
    ix4 a b d e = ix4 a' b' d' e' := by
  obtain rfl := Fin.ext h₀; obtain rfl := Fin.ext h₁; obtain rfl := Fin.ext h₂; obtain rfl := Fin.ext h₃; rfl

/-- The image array at a lane: row `n / 64`, column `n % 64`. -/
theorem x_at (b : Fin 4) (k : Fin 512) (n : Fin 4096) :
    (V m c main_v0 : FVec Ideal S4x512x4096 .f32) (ix3 b k n)
      = (m ((c : Thread nD τ).loc main_arg0) : FVec Ideal S4x512x64x64 .f32) (ix4 b k ⟨n.val / 64, by omega⟩ ⟨n.val % 64, by omega⟩) := by
  rw [x_eq]
  pointwise

/-- The tap axis is row times three plus column. -/
theorem taps_at (w : FVec Ideal S512x512x3x3 .f32) (t : Fin 9) (o k : Fin 512) :
    taps w (ix3 t o k) = w (ix4 o k ⟨t.val / 3, by omega⟩ ⟨t.val % 3, by omega⟩) := by
  pointwise [taps]

/-- The convolution's bias array. -/
theorem b3_at (o : Fin 512) :
    (V m c main_v36 : FVec Ideal S512x1 .f32) (ix2 o 0)
      = (m ((c : Thread nD τ).loc main_arg2) : FVec Ideal S512 .f32) (ix1 o) := by
  rw [b3_eq]
  pointwise

/-- The heads' weight array: the first 36 rows are the box head's. -/
theorem wh_box (a : Fin 64) (a' : Fin 36) (h : a.val = a'.val) (o : Fin 512) :
    (V m c main_v33 : FVec Ideal S64x512 .bf16) (ix2 a o) = (m ((c : Thread nD τ).loc main_arg3) : FVec Ideal S36x512x1x1 .f32) (ix4 a' o 0 0) := by
  rw [wh_eq]
  pointwise [heads]
  rw [dif_pos (by omega)]
  exact congrArg _ (ix4_congr h rfl rfl rfl)

/-- The heads' weight array: the next nine rows are the class head's. -/
theorem wh_cls (a : Fin 64) (a' : Fin 9) (h : a.val = a'.val + 36) (o : Fin 512) :
    (V m c main_v33 : FVec Ideal S64x512 .bf16) (ix2 a o) = (m ((c : Thread nD τ).loc main_arg5) : FVec Ideal S9x512x1x1 .f32) (ix4 a' o 0 0) := by
  rw [wh_eq]
  pointwise [heads]
  rw [dif_neg (by omega), dif_pos (by omega)]
  exact congrArg _ (ix4_congr (by simp [h]) rfl rfl rfl)

/-- The heads' bias array: the first 36 entries are the box head's. -/
theorem bh_box (a : Fin 64) (a' : Fin 36) (h : a.val = a'.val) :
    (V m c main_v37 : FVec Ideal S1x64 .f32) (ix2 0 a) = (m ((c : Thread nD τ).loc main_arg4) : FVec Ideal S36 .f32) (ix1 a') := by
  rw [bh_eq]
  pointwise [biases]
  rw [dif_pos (by omega)]
  exact congrArg _ (congrArg ix1 (Fin.ext h))

/-- The heads' bias array: the next nine entries are the class head's. -/
theorem bh_cls (a : Fin 64) (a' : Fin 9) (h : a.val = a'.val + 36) :
    (V m c main_v37 : FVec Ideal S1x64 .f32) (ix2 0 a) = (m ((c : Thread nD τ).loc main_arg6) : FVec Ideal S9 .f32) (ix1 a') := by
  rw [bh_eq]
  pointwise [biases]
  rw [dif_neg (by omega), dif_pos (by omega)]
  exact congrArg _ (congrArg ix1 (Fin.ext (by simp [h])))

/-- The convolution's weight array: stack entry `kx`, and along the contracted axis the tap row times 512 plus the input channel. -/
theorem wt_at (kx : Fin 3) (o : Fin 512) (k : Fin 1536) :
    (V m c main_v28 : FVec Ideal S3x512x1536 .bf16) (ix3 kx o k)
      = (m ((c : Thread nD τ).loc main_arg1) : FVec Ideal S512x512x3x3 .f32) (ix4 o ⟨k.val % 512, by omega⟩ ⟨k.val / 512, by omega⟩ kx) := by
  rw [wt_eq]
  pointwise [columns, column]
  simp only [taps_at]
  have hk := k.isLt
  have hx := kx.isLt
  split_ifs <;> refine congrArg _ (ix4_congr rfl ?_ ?_ ?_) <;> simp <;> omega

end Cert.KernelIdeal.Host

end
-- ==== Proof.KernelValue.lean ====
/- What the two output arrays hold after the region, and the results after the two reshapes. -/
module

public import proofs.«01_k».proof.Proof.Conv
public import proofs.«01_k».proof.Proof.Host
public import Idealize.ShloMosaic.Lib.Pipeline.ValueKit

@[expose] public section

set_option maxRecDepth 65536

noncomputable section

namespace Cert.KernelIdeal.Head

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The launched image. -/
abbrev img : FVec Ideal S4x512x64x64 .f32 := m ((c : Thread nD τ).loc main_arg0)
/-- The launched 3x3 filters. -/
abbrev fil : FVec Ideal S512x512x3x3 .f32 := m ((c : Thread nD τ).loc main_arg1)
/-- The launched bias of the hidden layer. -/
abbrev bias : FVec Ideal S512 .f32 := m ((c : Thread nD τ).loc main_arg2)
/-- The launched weights of the box head. -/
abbrev boxW : FVec Ideal S36x512x1x1 .f32 := m ((c : Thread nD τ).loc main_arg3)
/-- The launched bias of the box head. -/
abbrev boxB : FVec Ideal S36 .f32 := m ((c : Thread nD τ).loc main_arg4)
/-- The launched weights of the class head. -/
abbrev clsW : FVec Ideal S9x512x1x1 .f32 := m ((c : Thread nD τ).loc main_arg5)
/-- The launched bias of the class head. -/
abbrev clsB : FVec Ideal S9 .f32 := m ((c : Thread nD τ).loc main_arg6)

/-- The box output array: image, lane, output column. -/
def box : FVec Ideal S4x4096x36 .f32 := fun i =>
  Cert.Rpn.head (img m c) (fil m c) (fun o => bias m c (ix1 o)) (fun o => boxW m c (ix4 (i 2) o 0 0)) (boxB m c (ix1 (i 2)))
    (i 0) ((i 1).val / 64) ((i 1).val % 64)

/-- The class output array: image, lane, output column. -/
def cls : FVec Ideal S4x4096x9 .f32 := fun i =>
  Cert.Rpn.head (img m c) (fil m c) (fun o => bias m c (ix1 o)) (fun o => clsW m c (ix4 (i 2) o 0 0)) (clsB m c (ix1 (i 2)))
    (i 0) ((i 1).val / 64) ((i 1).val % 64)

/-- Where each window's block lies at each point: the image and the outputs move along the batch, the weights stay. -/
theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![t.val, 0, 0] ∧ win0_6.index t = ![t.val, 0, 0] :=
  (by decide +kernel : ∀ t : Fin grid0.N, _)

/-- The image window's block at a point is that image. -/
theorem iblk0 (t : Fin cfg0.N) : Cert.KernelIdeal.Body.IsImage (img m c) ⟨t.val, t.isLt⟩ (iblk m c 0 t) := by
  intro k n
  refine Eq.trans ?_ (Cert.KernelIdeal.Host.x_at m c ⟨t.val, t.isLt⟩ k n)
  blk_ext [iblk, idx t]
/-- The convolution's weight window is its whole array. -/
theorem iblk1 (t : Fin cfg0.N) : iblk m c 1 t = V m c main_v28 := by
  blk_ext! [iblk, idx t]
/-- The convolution's bias window is its whole array. -/
theorem iblk2 (t : Fin cfg0.N) : iblk m c 2 t = V m c main_v36 := by
  blk_ext! [iblk, idx t]
/-- The heads' weight window is its whole array. -/
theorem iblk3 (t : Fin cfg0.N) : iblk m c 3 t = V m c main_v33 := by
  blk_ext! [iblk, idx t]
/-- The heads' bias window is its whole array. -/
theorem iblk4 (t : Fin cfg0.N) : iblk m c 4 t = V m c main_v37 := by
  blk_ext! [iblk, idx t]

/-- One plane of the stacked weights, read at its place in the stack. -/
theorem ld1 (kx : Fin 3) (w : FVec Ideal S3x512x1536 .bf16) (h) (o : Fin 512) (k : Fin 1536) :
    View.ld (Val := Elt Ideal) (e' := .bf16) w (Rect.unit (s := S3x512x1536) ![kx.val, 0, 0] S1x512x1536.size h) (ix3 (0 : Fin 1) o k) = w (ix3 kx o k) := by
  refine congrArg w ?_
  funext a
  apply Fin.ext
  fin_cases a
  · show kx.val + 1 * 0 = kx.val
    omega
  · show 0 + 1 * o.val = o.val
    omega
  · show 0 + 1 * k.val = k.val
    omega

/-- Stack entry `kx` of the weight window holds the column of taps `kx`. -/
theorem col_at (t : Fin cfg0.N) (kx : Fin 3) (h) :
    Cert.KernelIdeal.Body.IsColumn (fil m c) kx (View.ld (iblk m c 1 t) (Rect.unit (s := S3x512x1536) ![kx.val, 0, 0] S1x512x1536.size h)) := by
  intro o k
  rw [iblk1]
  exact (ld1 kx _ h o k).trans (Cert.KernelIdeal.Host.wt_at m c kx o k)

/-- The body's value at a point, a lane and an output column. -/
theorem body_val (t : Fin cfg0.N) (n : Fin 4096) (a : Fin 64) :
    k0_pay6 (F := Ideal) (k0_pay8 (iblk m c 0 t) (iblk m c 1 t) (iblk m c 2 t) (iblk m c 3 t) (iblk m c 4 t))
        (k0_pay9 (iblk m c 0 t) (iblk m c 1 t) (iblk m c 2 t) (iblk m c 3 t) (iblk m c 4 t))
        (k0_pay10 (iblk m c 0 t) (iblk m c 1 t) (iblk m c 2 t) (iblk m c 3 t) (iblk m c 4 t))
        (View.ld (iblk m c 1 t) r0_2) (View.ld (iblk m c 1 t) r0_3) (iblk m c 2 t) (iblk m c 3 t) (iblk m c 4 t) (ix2 n a)
      = Cert.Rpn.head (img m c) (fil m c) (fun o => bias m c (ix1 o)) (fun o => (V m c main_v33 : FVec Ideal S64x512 .bf16) (ix2 a o))
          ((V m c main_v37 : FVec Ideal S1x64 .f32) (ix2 0 a)) ⟨t.val, t.isLt⟩ (n.val / 64) (n.val % 64) := by
  unfold k0_pay8 k0_pay9 k0_pay10
  rw [View.ld_unit_zero (S := S1x512x4096) (off := ![0, 0, 0]) (by funext a; fin_cases a <;> rfl)]
  refine (Cert.KernelIdeal.Body.head_eq (img m c) (fil m c) ⟨t.val, t.isLt⟩ (iblk0 m c t) (col_at m c t 0 _) (col_at m c t 1 _) (col_at m c t 2 _) _ _ _ n a).trans ?_
  rw [iblk2, iblk3, iblk4]
  exact Cert.Rpn.head_congr _ _ _ _ _ (fun o => Cert.KernelIdeal.Host.b3_at m c o) (fun _ => rfl) rfl

/-- The box output array after the region. -/
theorem box_final : (dats m 0 c).arrAt 5 (cfgs 0).N = box m c := by
  refine (dats m 0 c).arrAt_eq_of_covers 5 _ (by decide +kernel) fun t _ y => ?_
  blk_simp
  rw [after0_5]
  frame_out
  idx_vars y
  obtain rfl : y0 = 0 := Subsingleton.elim _ _
  refine ((Cert.KernelIdeal.Body.box_at _ _ _ _ _ _ _ _ y1 y2).trans (body_val m c t y1 _)).trans ?_
  have e : ((View.whole main_v38_0).slice (win0_5.rect t)).emb (ix3 (0 : Fin 1) y1 y2) = ix3 (⟨t.val, t.isLt⟩ : Fin 4) y1 y2 := by
    blk_ext [idx t]
  rw [e]
  exact Cert.Rpn.head_congr _ _ _ _ _ (fun _ => rfl) (fun o => Cert.KernelIdeal.Host.wh_box m c _ y2 rfl o) (Cert.KernelIdeal.Host.bh_box m c _ y2 rfl)

/-- The class output array after the region. -/
theorem cls_final : (dats m 0 c).arrAt 6 (cfgs 0).N = cls m c := by
  refine (dats m 0 c).arrAt_eq_of_covers 6 _ (by decide +kernel) fun t _ y => ?_
  blk_simp
  rw [after0_6]
  frame_out
  idx_vars y
  obtain rfl : y0 = 0 := Subsingleton.elim _ _
  refine ((Cert.KernelIdeal.Body.cls_at _ y1 y2).trans (body_val m c t y1 _)).trans ?_
  have e : ((View.whole main_v38_1).slice (win0_6.rect t)).emb (ix3 (0 : Fin 1) y1 y2) = ix3 (⟨t.val, t.isLt⟩ : Fin 4) y1 y2 := by
    blk_ext [idx t]
  rw [e]
  exact Cert.Rpn.head_congr _ _ _ _ _ (fun _ => rfl) (fun o => Cert.KernelIdeal.Host.wh_cls m c _ y2 (Nat.add_comm 36 y2.val) o)
    (Cert.KernelIdeal.Host.bh_cls m c _ y2 (Nat.add_comm 36 y2.val))

/-- The first result: the box array laid out as rows of four. -/
theorem box_res : Pipeline.afterTail₀ cfgs (dats m) 0 (V0 m) [hostOps1] c main_v39
    = shapeCast S4x36864x4 (box m c) shapeCasts_S4x4096x36_S4x36864x4 := by
  unfold Pipeline.afterTail₀
  simp only [hostOps1, List.flatten_cons, List.flatten_nil, List.append_nil, List.cons_append]
  after_results_simp
  have h := Pipeline.withArrays_arr (cfgs 0).spec launch0.win.arr_inj c (V0 m c) (fun w => (dats m 0 c).arrAt w (cfgs 0).N) 5
  rw [box_final] at h
  exact congrArg (fun v => shapeCast S4x36864x4 v shapeCasts_S4x4096x36_S4x36864x4) h

/-- The second result: the class array laid out as rows of one. -/
theorem cls_res : Pipeline.afterTail₀ cfgs (dats m) 0 (V0 m) [hostOps1] c main_v40
    = shapeCast S4x36864x1 (cls m c) shapeCasts_S4x4096x9_S4x36864x1 := by
  unfold Pipeline.afterTail₀
  simp only [hostOps1, List.flatten_cons, List.flatten_nil, List.append_nil, List.cons_append]
  after_results_simp
  have h := Pipeline.withArrays_arr (cfgs 0).spec launch0.win.arr_inj c (V0 m c) (fun w => (dats m 0 c).arrAt w (cfgs 0).N) 6
  rw [cls_final] at h
  exact congrArg (fun v => shapeCast S4x36864x1 v shapeCasts_S4x4096x9_S4x36864x1) h

end Cert.KernelIdeal.Head

end
-- ==== Proof.RefValue.lean ====
/- The reference, read at an index: the head of `Spec`. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Head

open Idealize.ShloMosaic Idealize.ShloMosaic.TcCoe Idealize.SL.Sem
open Cert.ReferenceIdeal Cert.ReferenceIdeal.Gen Cert.ReferenceIdeal.Read

/-- The padded image at an index of the 66x66 frame. -/
theorem pad_at (x : FVec Ideal S4x512x64x64 .f32) (b : Fin 4) (c : Fin 512) (p q : Fin 66) :
    val_main_v0 (F := Ideal) x (ix4 b c p q) = Cert.Rpn.padAt x b c p q := by
  have hz : (FloatOps.sitofp (F := Ideal) FTy.f32 (0#32)) = (0 : EReal) := by
    show (((0#32 : BitVec 32).toInt : ℝ) : EReal) = 0
    simp
  pointwise [val_main_v0, val_main_call0_v0, val_main_c, Cert.Rpn.padAt]
  rw [hz]
  by_cases h : (1 ≤ p.val ∧ p.val ≤ 64) ∧ 1 ≤ q.val ∧ q.val ≤ 64
  · rw [dif_pos h, dif_pos (by omega)]
  · rw [dif_neg h, dif_neg (by omega)]

/-- One tap of the reference's convolution: the framed image shifted by `(i, j)`, contracted with the filters' plane `(i, j)`. -/
theorem tap_at (x : FVec Ideal S4x512x64x64 .f32) (w : FVec Ideal S512x512x3x3 .f32) (i j : Fin 3) (h h₁ h₂) (b : Fin 4) (y z : Fin 64) (o : Fin 512) :
    Host.dotGeneral (F := Ideal) (φ₁ := .f32) (φ₂ := .f32) dot_S4x512x64x64_S512x512_S4x64x64x512_1_1_023_0_n_n none
        (extractStridedSlice S4x512x64x64 ![0, 0, i.val, j.val] (val_main_v0 (F := Ideal) x : FVec Ideal S4x512x66x66 .f32) h)
        (shapeCast S512x512 (extractStridedSlice S512x512x1x1 ![0, 0, i.val, j.val] w h₁) h₂) (ix4 b y z o)
      = Cert.Rpn.tap x w b o y z i j := by
  pointwise [Cert.Rpn.tap]
  refine Finset.sum_congr rfl fun c _ => congrArg (· * _) ((pad_at x b c _ _).trans ?_)
  rw [Nat.add_comm y.val, Nat.add_comm z.val]

/-- The reference's convolution. -/
theorem conv_at (x : FVec Ideal S4x512x64x64 .f32) (w : FVec Ideal S512x512x3x3 .f32) (b : Fin 4) (o : Fin 512) (y z : Fin 64) :
    val_main_v55 (F := Ideal) x w (ix4 b o y z) = Cert.Rpn.conv x w b o y z := by
  pointwise [val_main_v55, val_main_v49, val_main_v43, val_main_v37, val_main_v31, val_main_v25, val_main_v19, val_main_v13,
    val_main_v7, val_main_v6, val_main_cst, val_main_v5, val_main_v12, val_main_v18, val_main_v24, val_main_v30, val_main_v36,
    val_main_v42, val_main_v48, val_main_v54]
  rw [show val_main_v4 (F := Ideal) x w (ix4 b y z o) = _ from tap_at x w 0 0 _ _ _ b y z o,
    show val_main_v11 (F := Ideal) x w (ix4 b y z o) = _ from tap_at x w 0 1 _ _ _ b y z o,
    show val_main_v17 (F := Ideal) x w (ix4 b y z o) = _ from tap_at x w 0 2 _ _ _ b y z o,
    show val_main_v23 (F := Ideal) x w (ix4 b y z o) = _ from tap_at x w 1 0 _ _ _ b y z o,
    show val_main_v29 (F := Ideal) x w (ix4 b y z o) = _ from tap_at x w 1 1 _ _ _ b y z o,
    show val_main_v35 (F := Ideal) x w (ix4 b y z o) = _ from tap_at x w 1 2 _ _ _ b y z o,
    show val_main_v41 (F := Ideal) x w (ix4 b y z o) = _ from tap_at x w 2 0 _ _ _ b y z o,
    show val_main_v47 (F := Ideal) x w (ix4 b y z o) = _ from tap_at x w 2 1 _ _ _ b y z o,
    show val_main_v53 (F := Ideal) x w (ix4 b y z o) = _ from tap_at x w 2 2 _ _ _ b y z o]
  simp only [Cert.Rpn.conv, Fin.sum_univ_three, zero_add, add_assoc]

/-- The reference's hidden layer. -/
theorem hid_at (x : FVec Ideal S4x512x64x64 .f32) (w : FVec Ideal S512x512x3x3 .f32) (β : FVec Ideal S512 .f32) (b : Fin 4) (o : Fin 512) (y z : Fin 64) :
    val_main_v59 (F := Ideal) x w β (ix4 b o y z) = Cert.Rpn.hid x w (fun o => β (ix1 o)) b o y z := by
  pointwise [val_main_v59, val_main_v58, val_main_v57, val_main_v56, val_main_call1_v0, val_main_call1_cst, Cert.Rpn.hid]
  rw [conv_at]

/-- The reference's box head, channels last. -/
theorem box_at (x : FVec Ideal S4x512x64x64 .f32) (w : FVec Ideal S512x512x3x3 .f32) (β : FVec Ideal S512 .f32)
    (r : FVec Ideal S36x512x1x1 .f32) (s : FVec Ideal S36 .f32) (b : Fin 4) (y z : Fin 64) (a : Fin 36) :
    val_main_v72 (F := Ideal) x w β r s (ix4 b y z a)
      = Cert.Rpn.head x w (fun o => β (ix1 o)) (fun o => r (ix4 a o 0 0)) (s (ix1 a)) b y z := by
  pointwise [val_main_v72, val_main_v65, val_main_v64, val_main_v63, val_main_v62, val_main_v61, val_main_v60, Cert.Rpn.head]
  simp only [hid_at]

/-- The reference's class head, channels last. -/
theorem cls_at (x : FVec Ideal S4x512x64x64 .f32) (w : FVec Ideal S512x512x3x3 .f32) (β : FVec Ideal S512 .f32)
    (r : FVec Ideal S9x512x1x1 .f32) (s : FVec Ideal S9 .f32) (b : Fin 4) (y z : Fin 64) (a : Fin 9) :
    val_main_v74 (F := Ideal) x w β r s (ix4 b y z a)
      = Cert.Rpn.head x w (fun o => β (ix1 o)) (fun o => r (ix4 a o 0 0)) (s (ix1 a)) b y z := by
  pointwise [val_main_v74, val_main_v71, val_main_v70, val_main_v69, val_main_v68, val_main_v67, val_main_v66, Cert.Rpn.head]
  simp only [hid_at]

end Cert.ReferenceIdeal.Head

end
-- ==== Proof.Tie.lean ====
/- The kernel's two results are the reference's: both lay out the same head, the one from lanes, the other from rows and columns. -/
module

public import proofs.«01_k».proof.Proof.KernelValue
public import proofs.«01_k».proof.Proof.RefValue

@[expose] public section

set_option maxRecDepth 65536

noncomputable section

namespace Cert.Tie

open Idealize.ShloMosaic Idealize.ShloMosaic.TcCoe Idealize.SL.Sem
open Cert.KernelIdeal Cert.KernelIdeal.Gen Cert.KernelIdeal.Head

/-- Two reshapes in a row are one. -/
theorem cast_cast {s t u : Shape} {α : Type} (v : s.Idx → α) (h : s.ShapeCasts t) (h' : t.ShapeCasts u) (h'' : s.ShapeCasts u) :
    shapeCast u (shapeCast t v h) h' = shapeCast u v h'' :=
  funext fun i => congrArg v (Shape.reshapeEquiv_reshapeEquiv _ _ i)

/-- The box array over lanes is the reference's box array over rows and columns, reshaped. -/
theorem box_lanes (m : (ℓ : Loc nD τ sig) → Buf (Elt Ideal) ℓ) (c : Dev nD) (h : Cert.ReferenceIdeal.S4x64x64x36.ShapeCasts S4x4096x36) :
    box m c = shapeCast S4x4096x36
      (Cert.ReferenceIdeal.Read.val_main_v72 (F := Ideal) (img m c) (fil m c) (bias m c) (boxW m c) (boxB m c)) h := by
  funext i
  idx_vars i
  generalize hT : Cert.ReferenceIdeal.Read.val_main_v72 (F := Ideal) (img m c) (fil m c) (bias m c) (boxW m c) (boxB m c) = T
  have hd : i1.val / 64 < 64 := by have := i1.isLt; omega
  have hm : i1.val % 64 < 64 := by omega
  rw [shapeCast_apply T h (ix3 i0 i1 i2) (ix4 i0 ⟨i1.val / 64, hd⟩ ⟨i1.val % 64, hm⟩ i2) (by
    rewrite [Shape.rowMajor_val_four, Shape.rowMajor_val_three]
    show ((i0.val * 64 + i1.val / 64) * 64 + i1.val % 64) * 36 + i2.val = (i0.val * 4096 + i1.val) * 36 + i2.val
    have : (i0.val * 64 + i1.val / 64) * 64 + i1.val % 64 = i0.val * 4096 + i1.val := by omega
    rw [this]), ← hT, Cert.ReferenceIdeal.Head.box_at]
  rfl

/-- The class array over lanes is the reference's class array over rows and columns, reshaped. -/
theorem cls_lanes (m : (ℓ : Loc nD τ sig) → Buf (Elt Ideal) ℓ) (c : Dev nD) (h : Cert.ReferenceIdeal.S4x64x64x9.ShapeCasts S4x4096x9) :
    cls m c = shapeCast S4x4096x9
      (Cert.ReferenceIdeal.Read.val_main_v74 (F := Ideal) (img m c) (fil m c) (bias m c) (clsW m c) (clsB m c)) h := by
  funext i
  idx_vars i
  generalize hT : Cert.ReferenceIdeal.Read.val_main_v74 (F := Ideal) (img m c) (fil m c) (bias m c) (clsW m c) (clsB m c) = T
  have hd : i1.val / 64 < 64 := by have := i1.isLt; omega
  have hm : i1.val % 64 < 64 := by omega
  rw [shapeCast_apply T h (ix3 i0 i1 i2) (ix4 i0 ⟨i1.val / 64, hd⟩ ⟨i1.val % 64, hm⟩ i2) (by
    rewrite [Shape.rowMajor_val_four, Shape.rowMajor_val_three]
    show ((i0.val * 64 + i1.val / 64) * 64 + i1.val % 64) * 9 + i2.val = (i0.val * 4096 + i1.val) * 9 + i2.val
    have : (i0.val * 64 + i1.val / 64) * 64 + i1.val % 64 = i0.val * 4096 + i1.val := by omega
    rw [this]), ← hT, Cert.ReferenceIdeal.Head.cls_at]
  rfl

/-- The first result is the reference's first. -/
theorem box_eq (m : (ℓ : Loc nD τ sig) → Buf (Elt Ideal) ℓ) (c : Dev nD) :
    Cert.ReferenceIdeal.Read.val_main_v73 (F := Ideal) (img m c) (fil m c) (bias m c) (boxW m c) (boxB m c)
      = shapeCast S4x36864x4 (box m c) shapeCasts_S4x4096x36_S4x36864x4 := by
  rw [box_lanes m c (by decide), cast_cast]
  rfl

/-- The second result is the reference's second. -/
theorem cls_eq (m : (ℓ : Loc nD τ sig) → Buf (Elt Ideal) ℓ) (c : Dev nD) :
    Cert.ReferenceIdeal.Read.val_main_v75 (F := Ideal) (img m c) (fil m c) (bias m c) (clsW m c) (clsB m c)
      = shapeCast S4x36864x1 (cls m c) shapeCasts_S4x4096x9_S4x36864x1 := by
  rw [cls_lanes m c (by decide), cast_cast]
  rfl

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel.Frame
public import proofs.«01_k».proof.Proof.Gen.KernelIdeal.Frame
public import proofs.«01_k».proof.Proof.Gen.ReferenceIdeal.Run
public import proofs.«01_k».proof.Proof.Tie
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The kernel's run at the ideal instance: both results hold the head's values laid out as rows. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v39)
          = Cert.ReferenceIdeal.Read.val_main_v73 (F := Ideal) (Cert.KernelIdeal.Head.img m c) (Cert.KernelIdeal.Head.fil m c)
              (Cert.KernelIdeal.Head.bias m c) (Cert.KernelIdeal.Head.boxW m c) (Cert.KernelIdeal.Head.boxB m c)
        ∧ r.2.mem ((c.tc : Thread Cert.KernelIdeal.nD Cert.KernelIdeal.τ).loc Cert.KernelIdeal.main_v40)
          = Cert.ReferenceIdeal.Read.val_main_v75 (F := Ideal) (Cert.KernelIdeal.Head.img m c) (Cert.KernelIdeal.Head.fil m c)
              (Cert.KernelIdeal.Head.bias m c) (Cert.KernelIdeal.Head.clsW m c) (Cert.KernelIdeal.Head.clsB m c)) := by
  refine θ_run_mono (Cert.KernelIdeal.Gen.run_main m g) ?_
  intro r hr c
  exact ⟨((hr c).2 Cert.KernelIdeal.main_v39 (by decide)).trans
      ((Cert.KernelIdeal.Head.box_res m c).trans (Cert.Tie.box_eq m c).symm),
    ((hr c).2 Cert.KernelIdeal.main_v40 (by decide)).trans
      ((Cert.KernelIdeal.Head.cls_res m c).trans (Cert.Tie.cls_eq m c).symm)⟩

/-- The value claim: kernel and reference end with the same two results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, θ_run_mono (θ_run_and (kernel_run m g) (Cert.KernelIdeal.Gen.unchanged m g))
    (fun r h c => ⟨(h.1 c).1, (h.1 c).2, h.2 c⟩), θ_run_mono (Cert.ReferenceIdeal.Value.run m' g') ?_⟩
  intro r h c
  obtain ⟨a0, a1, a2, a3, a4, a5, a6⟩ := hagree c
  refine ⟨(h c).1.trans ?_, (h c).2.1.trans ?_, (h c).2.2⟩
  · rw [Cert.ReferenceIdeal.Read.val_main_v73_eq, a0, a1, a2, a3, a4]
  · rw [Cert.ReferenceIdeal.Read.val_main_v75_eq, a0, a1, a2, a5, a6]

/-- The reference's frame: its run leaves the arguments alone, and it has no counter. -/
theorem reference_frame : Cert.quiescent_ReferenceIdeal (hReferenceIdeal := Cert.ReferenceIdeal.Gen.facts) := by
  intro m g _
  exact θ_run_mono (Cert.ReferenceIdeal.Value.run m g)
    (fun r h => ⟨fun c => (h c).2.2, sem_eq_zero_of_no_sems (by decide) r.2⟩)

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
